-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64 : Shape := ⟨1, ![64]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel

variable [Facts]

def fn {F : FTy → Type} [FloatOps F] (main_arg0 : FVec F S64 .f32) : IVec S_ 1 :=
  let main_v0 : FVec F S64 .f32 := Host.absf main_arg0
  let main_cst : FVec F S_ .f32 := constant S_ .f32 0x7F800000#32
  let main_v1 : FVec F S64 .f32 := broadcastInDim S64 ![] bcast_S_S64 main_cst
  let main_v2 : IVec S64 1 := cmpf .olt main_v0 main_v1
  let main_c : IVec S_ 1 := constantI S_ 1 1#1
  let main_v3 : IVec S_ 1 := (fun x v => Host.reduce IntOp.andi x v reducesTo_S64_S_d0 h_S_) main_v2 main_c
  main_v3
-- ==== Kernel.lean ====
abbrev S64 : Shape := ⟨1, ![64]⟩
abbrev S1 : Shape := ⟨1, ![1]⟩
abbrev S_ : Shape := ⟨0, ![]⟩

abbrev nBuf : Table → Nat
  | .hbm => 3
  | .local .scScalar .smem => 3
  | _ => 0

abbrev bufTy : (tb : Table) → Fin (nBuf tb) → BufTy
  | .hbm, ⟨0, _⟩ => ⟨S64, .f32⟩
  | .hbm, ⟨1, _⟩ => ⟨S1, .f32⟩
  | .hbm, ⟨2, _⟩ => ⟨S1, .i32⟩
  | .local .scScalar .smem, ⟨0, _⟩ => ⟨S64, .f32⟩
  | .local .scScalar .smem, ⟨1, _⟩ => ⟨S1, .f32⟩
  | .local .scScalar .smem, ⟨2, _⟩ => ⟨S1, .i32⟩
  | _, _ => ⟨S64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_arg0_scs : Ref sig .scScalar := ⟨.hbm, 0, rfl⟩
abbrev main_v0_0_scs : Ref sig .scScalar := ⟨.hbm, 1, rfl⟩
abbrev main_v0_1_scs : Ref sig .scScalar := ⟨.hbm, 2, rfl⟩
abbrev cc0_scratch0 : Ref sig .scScalar := ⟨.smem, 0, rfl⟩
abbrev cc0_scratch1 : Ref sig .scScalar := ⟨.smem, 1, rfl⟩
abbrev cc0_scratch2 : Ref sig .scScalar := ⟨.smem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== ReferenceIdeal.lean ====
abbrev S64 : Shape := ⟨1, ![64]⟩
abbrev S1 : Shape := ⟨1, ![1]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S64, .f32⟩
  | .hbm, ⟨1, _⟩ => ⟨S1, .f32⟩
  | .hbm, ⟨2, _⟩ => ⟨S1, .i32⟩
  | .hbm, ⟨3, _⟩ => ⟨S_, .f32⟩
  | .hbm, ⟨4, _⟩ => ⟨S1, .f32⟩
  | .hbm, ⟨5, _⟩ => ⟨S1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1, .f32⟩
  | .hbm, ⟨11, _⟩ => ⟨S1, .f32⟩
  | .hbm, ⟨12, _⟩ => ⟨S1, .f32⟩
  | .hbm, ⟨13, _⟩ => ⟨S_, .f32⟩
  | .hbm, ⟨14, _⟩ => ⟨S_, .f32⟩
  | .hbm, ⟨15, _⟩ => ⟨S1, .f32⟩
  | .hbm, ⟨16, _⟩ => ⟨S1, .f32⟩
  | _, _ => ⟨S64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_values : Ref sig .tc := ⟨.hbm, 1, rfl⟩
abbrev main_indices : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Proof.Scan.lean ====
/- What the kernel computes, as a function of the array it reads, over any float values: the running choice of
   the strictly greater of two entries, four times along sixteen entries and then across the four results. -/
module

public import proofs.«01_k».proof.Defs

@[expose] public section

noncomputable section

namespace Cert.Proof.Router

open Cert.KernelIdeal
open Idealize.ShloMosaic

variable {F : FTy → Type} [FloatOps F]

/-- A candidate for the maximum: a value and the position it was read at, as a 32-bit word. -/
abbrev Cand (F : FTy → Type) : Type := F .f32 × BitVec 32

/-- The challenger `b` if its value is strictly the greater, else the holder `a`. -/
def keep (a b : Cand F) : Cand F :=
  (Scalar.select (Scalar.cmpf .ogt b.1 a.1) b.1 a.1, Scalar.select (Scalar.cmpf .ogt b.1 a.1) b.2 a.2)

/-- Position `l` of the array of 64 (read modulo 64, so that every number names one). -/
def at64 (l : Nat) : S64.Idx := fun a => ⟨l % S64.size a, Nat.mod_lt _ ((show ∀ a, 0 < S64.size a by decide) a)⟩

/-- The array's entry `l` with its position. -/
def entry (x : S64.Idx → F .f32) (l : Nat) : Cand F := (x (at64 l), BitVec.ofNat 32 l)

/-- The choice among the entries `s, …, s + n`, taken from the left. -/
def run (x : S64.Idx → F .f32) (s : Nat) : Nat → Cand F
  | 0 => entry x s
  | n + 1 => keep (run x s n) (entry x (s + (n + 1)))

/-- The kernel's choice: the four runs of sixteen, then their results from the left. -/
def best (x : S64.Idx → F .f32) : Cand F :=
  keep (keep (keep (run x 0 15) (run x 16 15)) (run x 32 15)) (run x 48 15)

/-- The weight the kernel writes: the constant one. -/
def weight : S1.Idx → F .f32 := fun _ => Scalar.ofBits .f32 0x3F800000#32

/-- The index the kernel writes: the position its choice ends with. -/
def index (x : S64.Idx → F .f32) : S1.Idx → BitVec 32 := fun _ => (best x).2

end Cert.Proof.Router

end
-- ==== Proof.Body.lean ====
/- The kernel's body on the sequencer of the one SparseCore, over any float values: from the array of 64, the two
   results and the scratch whole and its three transfers' cells at zero, to the same with the two results at the
   weight and the index of Proof/Scan.lean. -/
module

public import proofs.«01_k».proof.Defs
public import proofs.«01_k».proof.Proof.Scan
public import proofs.«01_k».proof.Proof.Gen.KernelIdeal
public import proofs.«01_k».proof.Proof.Gen.KernelIdeal.Skeleton
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.VecWindow

@[expose] public section

noncomputable section

namespace Cert.Proof.Router

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The resources beside memory: the handshakes' rounds and the transfers' counters. -/
abbrev UH : Type := URounds (GSem nD τ sig) ℕ
abbrev UU : Type := UH × Counters

local notation "𝕄" => MT nD τ sig (HIx 1) (Elt F) ℕ UU ℕ

-- the memrefs as the body's table passes them
local notation "xM" => (Memref.whole Cert.KernelIdeal.main_arg0_scs : Memref Cert.KernelIdeal.sig Kind.scScalar Space.hbm Cert.KernelIdeal.S64 EltTy.f32)
local notation "wM" => (Memref.whole Cert.KernelIdeal.main_v0_0_scs : Memref Cert.KernelIdeal.sig Kind.scScalar Space.hbm Cert.KernelIdeal.S1 EltTy.f32)
local notation "iM" => (Memref.whole Cert.KernelIdeal.main_v0_1_scs : Memref Cert.KernelIdeal.sig Kind.scScalar Space.hbm Cert.KernelIdeal.S1 EltTy.i32)
local notation "xS" => (Memref.whole Cert.KernelIdeal.cc0_scratch0 : Memref Cert.KernelIdeal.sig Kind.scScalar Space.smem Cert.KernelIdeal.S64 EltTy.f32)
local notation "wS" => (Memref.whole Cert.KernelIdeal.cc0_scratch1 : Memref Cert.KernelIdeal.sig Kind.scScalar Space.smem Cert.KernelIdeal.S1 EltTy.f32)
local notation "iS" => (Memref.whole Cert.KernelIdeal.cc0_scratch2 : Memref Cert.KernelIdeal.sig Kind.scScalar Space.smem Cert.KernelIdeal.S1 EltTy.i32)

/-- The coordinates of the launch's one grid point. -/
def coordsS (c : Fin (grid0.bound 0)) : grid0.Coords := fun | 0 => c | ⟨_ + 1, h⟩ => absurd h (Nat.not_lt.2 (Nat.le_add_left _ _))

/-- The sequencer's thread on device `d`. -/
abbrev S0 (d : Dev nD) (h : 0 < grid0.bound 0) : Thread nD τ := S d ((⟨0, h⟩ : Fin (grid0.bound 0)).castLE hcore0)

/-- Cell `k` of the pool of transfer cells. -/
abbrev cell (k : Nat) (hk : k < 3 := by decide) : DmaSem sig := ⟨k, hk⟩

/-- The three transfers' cells at zero. -/
abbrev cells0 (d : Dev nD) (c : Fin τ.nSC) : sProp 𝕄 :=
  iprop(semVal (S d c, SemLoc.dma (cell 0)) 0 ∗ semVal (S d c, SemLoc.dma (cell 1)) 0
    ∗ semVal (S d c, SemLoc.dma (cell 2)) 0)

omit [FloatOps F] in
/-- The word the body reads at offset `l` of its copy of the array is the copy's entry `l`. -/
theorem load_at (f : S64.Idx → F .f32) {l : Nat} (inb : ∀ a, (![l] : Fin 1 → Nat) a + (![1] : Fin 1 → Nat) a ≤ S64.size a)
    (h : 0 < (Rect.unit (s := S64) ![l] ![1] inb).toLoadRect.shape.numel) :
    View.readAt (Elt F) (View.whole cc0_scratch0) (Rect.unit (s := S64) ![l] ![1] inb).toLoadRect f (Shape.Idx.first h) = f (at64 l) := by
  refine congrArg f (funext fun a => Fin.ext ?_)
  have hl : l < 64 := by exact inb 0
  fin_cases a
  show l + 1 * 0 = l % 64
  omega

/-- The body on the sequencer: from the array, the two results and the three scratch buffers held whole, and the three
    cells at zero, to the array unchanged, the results at the weight and the index, and the cells at zero again. -/
theorem router_body (d : Dev nD) (h : 0 < grid0.bound 0) (O : CellTallies nD τ sig (HIx 1)) (W : Waits sig (HIx 1))
    (x : Buf (Elt F) ((xM).view.loc (S0 d h)))
    (fw : Buf (Elt F) ((wM).view.loc (S0 d h))) (fi : Buf (Elt F) ((iM).view.loc (S0 d h)))
    (sx : Buf (Elt F) ((xS).view.loc (S0 d h))) (sw : Buf (Elt F) ((wS).view.loc (S0 d h))) (si : Buf (Elt F) ((iS).view.loc (S0 d h))) :
    (iprop(Transfers.MayWaits (S0 d h) (none : HIx 1) O
        ∗ ((xM).view.loc (S0 d h) ↦{fullShare} x)
        ∗ ((wM).view.loc (S0 d h) ↦{fullShare} fw)
        ∗ ((iM).view.loc (S0 d h) ↦{fullShare} fi)
        ∗ ((xS).view.loc (S0 d h) ↦{fullShare} sx)
        ∗ ((wS).view.loc (S0 d h) ↦{fullShare} sw)
        ∗ ((iS).view.loc (S0 d h) ↦{fullShare} si)
        ∗ cells0 d ((⟨0, h⟩ : Fin (grid0.bound 0)).castLE hcore0)
        ∗ owes (S0 d h) O W) : sProp 𝕄)
      ⊢ wp frame (wpE (defs₀ (F := F)) Variants.none (S0 d h) none) Set.univ
          (cc0__router (coordsS ⟨0, h⟩) xM (Memref.isWhole_whole _) wM (Memref.isWhole_whole _) iM (Memref.isWhole_whole _)
            xS (Memref.isWhole_whole _) wS (Memref.isWhole_whole _) iS (Memref.isWhole_whole _) cc0_scratch3 cc0_scratch4 cc0_scratch5)
          fun _ => iprop(((xM).view.loc (S0 d h) ↦{fullShare} x)
            ∗ ((wM).view.loc (S0 d h) ↦{fullShare} weight)
            ∗ ((iM).view.loc (S0 d h) ↦{fullShare} index x)
            ∗ (∃ f, (xS).view.loc (S0 d h) ↦{fullShare} f)
            ∗ (∃ f, (wS).view.loc (S0 d h) ↦{fullShare} f)
            ∗ (∃ f, (iS).view.loc (S0 d h) ↦{fullShare} f)
            ∗ cells0 d ((⟨0, h⟩ : Fin (grid0.bound 0)).castLE hcore0)
            ∗ ∃ W', owes (S0 d h) O W') := by
  iintro ⟨#Hmw, Hx, Hw, Hi, Hsx, Hsw, Hsi, ⟨Hc0, Hc1, Hc2⟩, HO⟩
  sl_unfold [cc0__router]
  sl_exec
  sl_step
  have hw : View.write (Elt F) (wM).view fw (router_body.sl.dma2 d h sw) Finset.univ = weight := by
    sl_unfold_run_names
    exact (View.write_whole_univ _ _ _).trans (View.read_writes_full _ _ _ _ _)
  have hi : View.write (Elt F) (iM).view fi (router_body.sl.dma68 d h x sx si) Finset.univ = index x := by
    refine (View.write_whole_univ _ _ _).trans ?_
    refine (View.read_writes_full _ _ _ _ _).trans (funext fun _ => ?_)
    change _ = (best x).2
    sl_unfold_run_names
    simp only [View.write_whole_univ, View.read_whole, ReadAs.apply, load_at, best, run, keep, entry, Nat.reduceAdd, Nat.zero_add]
    rfl
  rw [hw, hi]
  sl_close

end Cert.Proof.Router

end
-- ==== Proof.Launch.lean ====
/- The whole program's run over any float values: the one call hands the array and the two results to the sequencer
   and takes them back, the results at the weight and the index of Proof/Scan.lean. -/
module

public import proofs.«01_k».proof.Defs
public import proofs.«01_k».proof.Proof.Body

@[expose] public section

noncomputable section

namespace Cert.Proof.Router

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The static facts the launch theorem asks of the program. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

/-- The handshakes' rounds, the left of the two resources. -/
abbrev EH : Emb UH (MT nD τ sig (HIx 1) (Elt F) ℕ UU ℕ) := embL

variable (m : (ℓ : Loc nD τ sig) → Buf (Elt F) ℓ) (ρ : Dev nD → PrngReg)

local notation "xM" => (Memref.whole Cert.KernelIdeal.main_arg0_scs : Memref Cert.KernelIdeal.sig Kind.scScalar Space.hbm Cert.KernelIdeal.S64 EltTy.f32)
local notation "wM" => (Memref.whole Cert.KernelIdeal.main_v0_0_scs : Memref Cert.KernelIdeal.sig Kind.scScalar Space.hbm Cert.KernelIdeal.S1 EltTy.f32)
local notation "iM" => (Memref.whole Cert.KernelIdeal.main_v0_1_scs : Memref Cert.KernelIdeal.sig Kind.scScalar Space.hbm Cert.KernelIdeal.S1 EltTy.i32)
local notation "xS" => (Memref.whole Cert.KernelIdeal.cc0_scratch0 : Memref Cert.KernelIdeal.sig Kind.scScalar Space.smem Cert.KernelIdeal.S64 EltTy.f32)
local notation "wS" => (Memref.whole Cert.KernelIdeal.cc0_scratch1 : Memref Cert.KernelIdeal.sig Kind.scScalar Space.smem Cert.KernelIdeal.S1 EltTy.f32)
local notation "iS" => (Memref.whole Cert.KernelIdeal.cc0_scratch2 : Memref Cert.KernelIdeal.sig Kind.scScalar Space.smem Cert.KernelIdeal.S1 EltTy.i32)

/-- The array and the two results on device `d`, -/
abbrev xLoc (d : Dev nD) : Loc nD τ sig := (SparseCore.T d).loc main_arg0
abbrev wLoc (d : Dev nD) : Loc nD τ sig := (SparseCore.T d).loc main_v0_0
abbrev iLoc (d : Dev nD) : Loc nD τ sig := (SparseCore.T d).loc main_v0_1
/-- and the sequencer's three scratch buffers. -/
abbrev sxLoc (d : Dev nD) (c : Fin τ.nSC) : Loc nD τ sig := (S d c).loc cc0_scratch0
abbrev swLoc (d : Dev nD) (c : Fin τ.nSC) : Loc nD τ sig := (S d c).loc cc0_scratch1
abbrev siLoc (d : Dev nD) (c : Fin τ.nSC) : Loc nD τ sig := (S d c).loc cc0_scratch2

variable [FloatOps F]

abbrev xPts (d : Dev nD) : sProp 𝕄 := xLoc d ↦{fullShare} m (xLoc d)
abbrev wPts (d : Dev nD) (f : Buf (Elt F) (wLoc d)) : sProp 𝕄 := wLoc d ↦{fullShare} f
abbrev iPts (d : Dev nD) (f : Buf (Elt F) (iLoc d)) : sProp 𝕄 := iLoc d ↦{fullShare} f

/-- What the call hands over: the array at its launch contents, the results at anything; -/
abbrev given (d : Dev nD) : sProp 𝕄 := iprop(xPts m d ∗ (∃ f, wPts d f) ∗ ∃ f, iPts d f)
/-- and what it takes back: the array unchanged, the results computed from it. -/
abbrev result (d : Dev nD) : sProp 𝕄 := iprop(xPts m d ∗ wPts d weight ∗ iPts d (index (m (xLoc d))))

/-- The call's payloads: to the sequencer what the call gives, and back what it computes; nothing for the tiles. -/
def P : (K (F := F)).Pay (nD := nD) (Val := Elt F) (Name := ℕ) (U := UU) where
  st := fun _ d _ => given m d
  dn := fun _ d _ => result m d
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The sequencer's scoped cells and buffers -/

section Scoped

variable (d : Dev nD) (c : Fin τ.nSC)

/-- The sequencer's cells other than the three transfers'. -/
abbrev otherCells : Finset (GSem nD τ sig) :=
  (((ownCells (S d c)).erase (S d c, .dma (cell 0))).erase (S d c, .dma (cell 1))).erase (S d c, .dma (cell 2))

omit [FloatOps F] in
/-- The sequencer's own cells at zero: the three transfers' and the rest. -/
theorem ownSems0_S :
    (ownSems0 (S d c) : sProp 𝕄)
      = iprop(semVal (S d c, SemLoc.dma (cell 0)) 0 ∗ semVal (S d c, SemLoc.dma (cell 1)) 0 ∗ semVal (S d c, SemLoc.dma (cell 2)) 0
          ∗ bigSep (otherCells d c) fun g => semVal g 0) := by
  have own (k : DmaSem sig) : ((S d c, .dma k) : GSem nD τ sig) ∈ ownCells (S d c) :=
    mem_ownCells.mpr ⟨rfl, (show ∀ s : DmaSem sig, (SemLoc.dma s : SemLoc sig).isScoped .scScalar = true by decide) k⟩
  have ne {j k : DmaSem sig} (h : j ≠ k) : ((S d c, .dma j) : GSem nD τ sig) ≠ (S d c, .dma k) :=
    fun e => h (SemLoc.dma.inj (congrArg Prod.snd e))
  unfold SparseCore.Cfg.ownSems0
  rw [SparseCore.bigSep_erase' (own (cell 0)),
    SparseCore.bigSep_erase' (Finset.mem_erase.mpr ⟨ne (j := cell 1) (k := cell 0) (by decide), own (cell 1)⟩),
    SparseCore.bigSep_erase' (Finset.mem_erase.mpr ⟨ne (j := cell 2) (k := cell 1) (by decide),
      Finset.mem_erase.mpr ⟨ne (j := cell 2) (k := cell 0) (by decide), own (cell 2)⟩⟩)]

/-- The sequencer's buffers other than the kernel's scratch. -/
abbrev otherRefs : Finset (DevRef τ sig) :=
  (((ownRefs (τ := τ) (.scScalar c)).erase ((Proc.scScalar c).devRef cc0_scratch0)).erase ((Proc.scScalar c).devRef cc0_scratch1)).erase ((Proc.scScalar c).devRef cc0_scratch2)

omit [FloatOps F] in
/-- The sequencer's own buffers: the three scratch buffers, each at some contents, and the rest. -/
theorem ownBufs_S :
    (ownBufs (S d c) : sProp 𝕄)
      = iprop((∃ f, sxLoc d c ↦{fullShare} f) ∗ (∃ f, swLoc d c ↦{fullShare} f) ∗ (∃ f, siLoc d c ↦{fullShare} f)
          ∗ bigSep (otherRefs c) fun b => iprop(∃ f, ((d, b) : Loc nD τ sig) ↦{fullShare} f)) := by
  unfold SparseCore.Cfg.ownBufs
  have ne : ∀ c : Fin τ.nSC, (Proc.scScalar c).devRef cc0_scratch1 ≠ (Proc.scScalar c).devRef cc0_scratch0
      ∧ (Proc.scScalar c).devRef cc0_scratch2 ≠ (Proc.scScalar c).devRef cc0_scratch0
      ∧ (Proc.scScalar c).devRef cc0_scratch2 ≠ (Proc.scScalar c).devRef cc0_scratch1 := by decide
  obtain ⟨n₁₀, n₂₀, n₂₁⟩ := ne c
  change bigSep (ownRefs (τ := τ) (.scScalar c)) _ = _
  rw [SparseCore.bigSep_erase' (mem_ownRefs.mpr (show ((Proc.scScalar c).devRef cc0_scratch0).owner.home = Proc.scScalar c from rfl)),
    SparseCore.bigSep_erase' (Finset.mem_erase.mpr ⟨n₁₀, mem_ownRefs.mpr (show ((Proc.scScalar c).devRef cc0_scratch1).owner.home = Proc.scScalar c from rfl)⟩),
    SparseCore.bigSep_erase' (Finset.mem_erase.mpr ⟨n₂₁, Finset.mem_erase.mpr ⟨n₂₀, mem_ownRefs.mpr (show ((Proc.scScalar c).devRef cc0_scratch2).owner.home = Proc.scScalar c from rfl)⟩⟩)]

end Scoped

/-! ## The launch theorem's obligation -/

/-- The kernel as the launch runs it: the sequencer's scoped buffers opened at the scratch and its scoped cells at the
    three the body names, the body run, and both packed again. -/
theorem body₀ (d : Dev nD) (hF : (K (F := F)).Facts) (h : 0 < grid0.bound 0) (O : CellTallies nD τ sig (HIx 1)) (W : Waits sig (HIx 1)) (hO : ∀ g, O g none = 0) :
    iprop(levAts (K (F := F)).L (K (F := F)).lev ∗ emp ∗ given m d ∗ scopedBufs (S0 d h) ∗ scopedSems0 (S0 d h) ∗ owes (S0 d h) O W)
      ⊢ wp frame (wpE (defs₀ (F := F)) 𝒱₀ (S0 d h) none) Set.univ
          (cc0__router (coordsS ⟨0, h⟩) xM (Memref.isWhole_whole _) wM (Memref.isWhole_whole _) iM (Memref.isWhole_whole _)
            xS (Memref.isWhole_whole _) wS (Memref.isWhole_whole _) iS (Memref.isWhole_whole _) cc0_scratch3 cc0_scratch4 cc0_scratch5)
          fun _ => iprop(result m d ∗ scopedBufs (S0 d h) ∗ scopedSems0 (S0 d h)
            ∗ ∃ W', ⌜∀ p ∈ W', p ∈ W ∨ p.2 = none ∨ p.2 = some (0 : Fin 1)⌝ ∗ owes (S0 d h) O W') := by
  rw [(K (F := F)).scopedBufs_S hF d _, SparseCore.Cfg.scopedSems0_S (Val := Elt F) d _, ownSems0_S, ownBufs_S]
  iintro ⟨#Hlv, -, ⟨Hx, ⟨%fw, Hw⟩, %fi, Hi⟩, ⟨⟨⟨%sx, Hsx⟩, ⟨%sw, Hsw⟩, ⟨%si, Hsi⟩, Hbufs⟩, Htiles⟩, ⟨⟨H0, H1, H2, Hsems⟩, HtileSems⟩, HO⟩
  ihave Hmw := ((K (F := F)).mayWaits_none (thr := S0 d h) hO) $$ Hlv
  iapply (wp_wand_r Idealize.ShloMosaic.frame (wpE (defs₀ (F := F)) 𝒱₀ (S0 d h) none) Set.univ)
  isplitl [Hx Hw Hi Hsx Hsw Hsi H0 H1 H2 HO]
  · iapply (router_body d h O W (m (xLoc d)) fw fi sx sw si)
    isplitr; · iexact Hmw
    isplitl [Hx]; · iexact Hx
    isplitl [Hw]; · iexact Hw
    isplitl [Hi]; · iexact Hi
    isplitl [Hsx]; · iexact Hsx
    isplitl [Hsw]; · iexact Hsw
    isplitl [Hsi]; · iexact Hsi
    isplitl [H0 H1 H2]
    · isplitl [H0]; · iexact H0
      isplitl [H1]; · iexact H1
      iexact H2
    iexact HO
  iintro %_ ⟨Hx, Hw, Hi, Hsx, Hsw, Hsi, ⟨H0, H1, H2⟩, %W', HO⟩
  isplitl [Hx Hw Hi]
  · isplitl [Hx]; · iexact Hx
    isplitl [Hw]; · iexact Hw
    iexact Hi
  isplitl [Hsx Hsw Hsi Hbufs Htiles]
  · isplitl [Hsx Hsw Hsi Hbufs]
    · isplitl [Hsx]; · iexact Hsx
      isplitl [Hsw]; · iexact Hsw
      isplitl [Hsi]; · iexact Hsi
      iexact Hbufs
    iexact Htiles
  isplitl [H0 H1 H2 Hsems HtileSems]
  · isplitl [H0 H1 H2 Hsems]
    · isplitl [H0]; · iexact H0
      isplitl [H1]; · iexact H1
      isplitl [H2]; · iexact H2
      iexact Hsems
    iexact HtileSems
  iexists W'; isplitr
  · ipureintro; intro p _
    rcases p.2 with _ | q
    · exact .inr (.inl rfl)
    · exact .inr (.inr (congrArg some (Subsingleton.elim q 0)))
  · iexact HO

/-- What the sequencer's one label runs: the kernel on core 0. -/
theorem defs₀_scalar (c : Fin τ.nSC) :
    defs₀ (F := F) (.scScalar c) 0 ()
      = SparseCore.onCore hcore0 (fun c => cc0__router (coordsS c) xM (Memref.isWhole_whole _) wM (Memref.isWhole_whole _) iM (Memref.isWhole_whole _)
          xS (Memref.isWhole_whole _) wS (Memref.isWhole_whole _) iS (Memref.isWhole_whole _) cc0_scratch3 cc0_scratch4 cc0_scratch5) ⟨⟩ c := rfl

/-- The launch theorem's obligation at the one call: the sequencer runs the kernel. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  match c with
  | ⟨0, h⟩ => exact body₀ m d facts h O W hO

/-! ## The launch element -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have none {I : Type} (s : Finset I) : (bigSep s fun _ => iprop(emp)) = (iprop(emp) : sProp 𝕄) := bigSep_emp_const s
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [none]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), none]
  iempintro

/-! ## @main on the TensorCore -/

omit [FloatOps F] in
/-- The TensorCore's unscoped buffers are the array and the two results. -/
theorem unscopedBufs_eq (d : Dev nD) (W : (b : Ref sig .tc) → Buf (Elt F) ((d.tc : Thread nD τ).loc b)) :
    (unscopedBufs d W : sProp 𝕄) = iprop((xLoc d ↦{fullShare} W main_arg0) ∗ (wLoc d ↦{fullShare} W main_v0_0) ∗ iLoc d ↦{fullShare} W main_v0_1) := by
  unfold unscopedBufs
  rw [show (Finset.univ.filter fun b : Ref sig .tc => ¬ b.isScoped) = {main_arg0, main_v0_0, main_v0_1} by decide,
    SparseCore.bigSep_insert' (by decide), SparseCore.bigSep_insert' (by decide), bigSep_singleton]

/-- What the call takes for its one SparseCore, and what it hands back. -/
theorem st0_eq (d : Dev nD) : (bigSep Finset.univ fun c : Fin ((K (F := F)).nCore 0) => (P m).st 0 d c) = given m d :=
  bigSep_univ_of_subsingleton (0 : Fin 1)
theorem dn0_eq (d : Dev nD) : (bigSep Finset.univ fun c : Fin ((K (F := F)).nCore 0) => (P m).dn 0 d c) = result m d :=
  bigSep_univ_of_subsingleton (0 : Fin 1)

/-- @main on device `d`: the one call, from the array and the results' buffers to the array unchanged and the results. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ result m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hw, Hi⟩, Hts, -⟩, -⟩
  iapply ((K (F := F)).wp_run (D (F := F)) 𝒱 (EH := EH) (P := P m) κ d 0) $$ [Hst Hx Hw Hi Hb Hts]
  isplitr; · iexact Hctx
  isplitl [Hst]; · iexact Hst
  isplitl [Hx Hw Hi]
  · rw [st0_eq]
    isplitl [Hx]; · iexact Hx
    isplitl [Hw]; · iexists _; iexact Hw
    iexists _; iexact Hi
  iintro ⟨Hst, Hdn⟩
  ihave Hres := (Entails.of_eq (dn0_eq m d)) $$ Hdn
  imodintro
  isplitl [Hst]; · iexact Hst
  isplitl [Hres]; · iexact Hres
  isplitl [Hb] <;> iassumption

/-- What a final state of device `d` shows: the array unchanged and the two results. -/
def fq (d : Dev nD) (s' : Phys nD τ sig (Elt F)) : Prop :=
  s'.mem.mem (xLoc d) = m (xLoc d) ∧ s'.mem.mem (wLoc d) = weight ∧ s'.mem.mem (iLoc d) = index (m (xLoc d))

theorem hfin (d : Dev nD) (s' : Phys nD τ sig (Elt F)) : iprop(result m d ∗ SI s') ⊢ (⌜fq m d s'⌝ : sProp 𝕄) := by
  iintro ⟨⟨Hx, Hw, Hi⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (persistent_entails_right (SI_pointsTo_agree (st := s') (ℓ := wLoc d) (I := Finset.univ) (q := fullShare) (f := weight))) $$ [HSI Hw]
  · isplitl [HSI] <;> iassumption
  icases H with ⟨%hw, HSI, -⟩
  ihave H := (SI_pointsTo_agree (st := s') (ℓ := iLoc d) (I := Finset.univ) (q := fullShare) (f := index (m (xLoc d)))) $$ [HSI Hi]
  · isplitl [HSI] <;> iassumption
  icases H with %hi
  ipureintro
  exact ⟨funext fun i => hx i (Finset.mem_univ i), funext fun i => hw i (Finset.mem_univ i), funext fun i => hi i (Finset.mem_univ i)⟩

/-! ## The program's run -/

/-- On every device the array unchanged, the weight one, the index the kernel's choice; every semaphore at zero. -/
def QC : PUnit × MemSt nD τ sig (Elt F) → Prop := fun r =>
  (∀ c : Dev nD, r.2.mem (xLoc c) = m (xLoc c) ∧ r.2.mem (wLoc c) = weight ∧ r.2.mem (iLoc c) = index (m (xLoc c)))
    ∧ r.2.sem = fun _ => 0

/-- Every execution of the program ends in such a state. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m)
    (fun q hq => match q with | 0 => nomatch hq)
    (fun q hq => match q with | 0 => nomatch hq)
    m ρ main (fun _ => iprop(emp)) (fun d => result m d) (u₀ (F := F)) (sep_elim_left.trans (hu₀ m)) (hmain m ρ) (fq m) (hfin m) (QC m) (fun _ h hz => ⟨h, hz⟩)

end Cert.Proof.Router

end
-- ==== Proof.Greatest.lean ====
/- The first position of the greatest of 64 extended reals: what it means, that there is only one, and that the
   kernel's choice of Proof/Scan.lean ends at it. -/
module

public import proofs.«01_k».proof.Proof.Scan

@[expose] public section

noncomputable section

namespace Cert.Proof.Router

open Idealize.ShloMosaic
open Cert.KernelIdeal (S64)

/-- Among the positions `lo ≤ q < hi` of `v`, `p` is the first that holds the greatest value: no other holds a greater
    one, and none before it holds the same. -/
structure FirstMax (v : Nat → EReal) (lo hi p : Nat) : Prop where
  le : lo ≤ p
  lt : p < hi
  wins : ∀ q, lo ≤ q → q < hi → v q < v p ∨ (v q = v p ∧ p ≤ q)

/-- There is only one such position. -/
theorem FirstMax.unique {v : Nat → EReal} {lo hi p p' : Nat} (h : FirstMax v lo hi p) (h' : FirstMax v lo hi p') : p = p' := by
  rcases h.wins p' h'.le h'.lt with a | ⟨_, a⟩ <;> rcases h'.wins p h.le h.lt with b | ⟨e, b⟩
  · exact absurd b a.not_gt
  · exact absurd (e ▸ a) (lt_irrefl _)
  · exact absurd b (by simp_all)
  · exact Nat.le_antisymm a b

/-- The array by position number. -/
abbrev val (x : S64.Idx → EReal) (q : Nat) : EReal := x (at64 q)

/-- A candidate holds the first greatest of the positions `lo ≤ q < hi`. -/
def Leads (x : S64.Idx → EReal) (lo hi : Nat) (c : Cand Ideal) : Prop :=
  ∃ p, FirstMax (val x) lo hi p ∧ c = entry (F := Ideal) x p

/-- The choice between two candidates, as a comparison of extended reals. -/
theorem keep_eq (a b : Cand Ideal) : keep a b = if a.1 < b.1 then b else a := by
  have h : (Scalar.cmpf (F := Ideal) .ogt b.1 a.1) = BitVec.ofBool (decide (a.1 < b.1)) := rfl
  unfold keep
  rw [h]
  by_cases hab : a.1 < b.1 <;> simp [hab, Scalar.select]

/-- An entry leads where it is alone. -/
theorem leads_entry (x : S64.Idx → EReal) (p : Nat) : Leads x p (p + 1) (entry (F := Ideal) x p) :=
  ⟨p, ⟨le_rfl, Nat.lt_succ_self p, fun q h h' => .inr ⟨by rw [show q = p by omega], h⟩⟩, rfl⟩

/-- The choice between the leader of a stretch and the leader of the next is the leader of both. -/
theorem leads_keep {x : S64.Idx → EReal} {lo mid hi : Nat} {a b : Cand Ideal} (ha : Leads x lo mid a) (hb : Leads x mid hi b) :
    Leads x lo hi (keep a b) := by
  obtain ⟨p, hp, rfl⟩ := ha
  obtain ⟨r, hr, rfl⟩ := hb
  have hpl := hp.lt
  have hrl := hr.le
  have hrh := hr.lt
  rw [keep_eq]
  split
  · next h =>
    have h : val x p < val x r := h
    refine ⟨r, ⟨hp.le.trans (by omega), hrh, fun q h₁ h₂ => ?_⟩, rfl⟩
    rcases Nat.lt_or_ge q mid with hq | hq
    · rcases hp.wins q h₁ hq with w | ⟨w, _⟩
      · exact .inl (w.trans h)
      · exact .inl (w ▸ h)
    · exact hr.wins q hq h₂
  · next h =>
    have h : val x r ≤ val x p := not_lt.mp h
    refine ⟨p, ⟨hp.le, by omega, fun q h₁ h₂ => ?_⟩, rfl⟩
    rcases Nat.lt_or_ge q mid with hq | hq
    · exact hp.wins q h₁ hq
    · have hle : val x q ≤ val x p := by
        rcases hr.wins q hq h₂ with w | ⟨w, _⟩
        · exact w.le.trans h
        · exact w.le.trans h
      rcases hle.lt_or_eq with w | w
      · exact .inl w
      · exact .inr ⟨w, by omega⟩

/-- A run along the entries `s, …, s + n` ends with their leader. -/
theorem leads_run (x : S64.Idx → EReal) (s n : Nat) : Leads x s (s + n + 1) (run (F := Ideal) x s n) := by
  induction n with
  | zero => exact leads_entry x s
  | succ n ih => exact leads_keep ih (leads_entry x (s + (n + 1)))

/-- The kernel's choice is the leader of all 64 positions. -/
theorem leads_best (x : S64.Idx → EReal) : Leads x 0 64 (best (F := Ideal) x) :=
  leads_keep (leads_keep (leads_keep (leads_run x 0 15) (leads_run x 16 15)) (leads_run x 32 15)) (leads_run x 48 15)

/-- The index the kernel writes is the first position of the greatest value. -/
theorem index_eq {x : S64.Idx → EReal} {p : Nat} (h : FirstMax (val x) 0 64 p) : index (F := Ideal) x = fun _ => BitVec.ofNat 32 p := by
  obtain ⟨q, hq, e⟩ := leads_best x
  have hqp := hq.unique h
  subst hqp
  unfold index
  rw [e]
  rfl

end Cert.Proof.Router

end
-- ==== Proof.TopOne.lean ====
/- The reference's first operation, the one greatest of 64 extended reals with its position: a stable sort of the
   positions, greater first, begins with the first position of the greatest value. -/
module

public import proofs.«01_k».proof.Proof.Greatest
public import Idealize.ShloMosaic.Lib.SortFacts

@[expose] public section

noncomputable section

namespace Cert.Proof.Router

open Idealize.ShloMosaic
open Cert.ReferenceIdeal (S64 S1)

/-- The head of a stable sort by descending `v` of a list of positions in increasing order: it is of the list, no
    position of the list holds a greater value, and none before it the same. -/
theorem head_sort {n : Nat} (v : Fin n → EReal) (l : List (Fin n)) (hl : l.Pairwise (· < ·)) (p : Fin n)
    (hp : (stableSort (fun k k' => decide (v k' < v k)) l).head? = some p) :
    p ∈ l ∧ ∀ q ∈ l, v q < v p ∨ (v q = v p ∧ p ≤ q) := by
  induction l generalizing p with
  | nil => simp [stableSort] at hp
  | cons a l ih =>
    obtain ⟨ha, hl⟩ := List.pairwise_cons.mp hl
    unfold stableSort at hp
    cases hs : stableSort (fun k k' => decide (v k' < v k)) l with
    | nil =>
      have : l = [] := List.length_eq_zero_iff.mp ((perm_stableSort _ l).length_eq ▸ congrArg List.length hs)
      subst this
      rw [hs] at hp
      obtain rfl : a = p := by simpa [insertBefore] using hp
      simp
    | cons b t =>
      obtain ⟨hb, hw⟩ := ih hl b (by rw [hs]; rfl)
      rw [hs] at hp
      unfold insertBefore at hp
      split at hp
      · next h =>
        have h : v a < v b := by simpa using h
        obtain rfl : b = p := by simpa using hp
        refine ⟨List.mem_cons_of_mem _ hb, fun q hq => ?_⟩
        rcases List.mem_cons.mp hq with rfl | hq
        · exact .inl h
        · exact hw q hq
      · next h =>
        have h : v b ≤ v a := by simpa using h
        obtain rfl : a = p := by simpa using hp
        refine ⟨List.mem_cons_self .., fun q hq => ?_⟩
        rcases List.mem_cons.mp hq with rfl | hq
        · exact .inr ⟨rfl, le_rfl⟩
        · have hle : v q ≤ v a := by
            rcases hw q hq with w | ⟨w, _⟩
            · exact w.le.trans h
            · exact w.le.trans h
          rcases hle.lt_or_eq with w | w
          · exact .inl w
          · exact .inr ⟨w, (ha q hq).le⟩

/-- The position a stable sort by descending `v` puts first is the first of the greatest value. -/
theorem sortedFrom_zero {n : Nat} (v : Fin (n + 1) → EReal) :
    ∀ q, v q < v (sortedFrom (fun k k' => decide (v k' < v k)) 0)
      ∨ (v q = v (sortedFrom (fun k k' => decide (v k' < v k)) 0) ∧ sortedFrom (fun k k' => decide (v k' < v k)) 0 ≤ q) := by
  refine fun q => (head_sort v (List.finRange (n + 1)) (List.pairwise_lt_finRange _) _ ?_).2 q (List.mem_finRange q)
  unfold sortedFrom sortPositions
  rw [List.head?_eq_getElem?]
  exact List.getElem?_eq_getElem _

/-- The reference's position: where its sort of the array's 64 positions begins. -/
def top (x : S64.Idx → EReal) : Fin 64 := sortedFrom (fun k k' : Fin 64 => decide (val x k'.val < val x k.val)) 0

/-- It is the first position of the greatest value. -/
theorem firstMax_top (x : S64.Idx → EReal) : FirstMax (val x) 0 64 (top x).val :=
  ⟨Nat.zero_le _, (top x).isLt, fun q _ h => sortedFrom_zero (n := 63) (fun k => val x k.val) ⟨q, h⟩⟩

/-- The greatest value and its position, as the reference's operation gives them. -/
theorem topOne (x : FVec Ideal S64 .f32) (h : S64.Slices (fun _ => 0) S1) :
    Host.topK S1 0 (FloatOps.cmpfTotal .gt) x h = (fun _ => val x (top x).val, fun _ => BitVec.ofNat 32 (top x).val) := by
  have along (j : S64.Idx) (k : Fin 64) : j.along (0 : Fin 1) k = at64 k.val := by
    refine funext fun a => Fin.ext ?_
    fin_cases a
    exact (Nat.mod_eq_of_lt k.isLt).symm
  have gt (a b : EReal) : (FloatOps.cmpfTotal (F := Ideal) (φ := .f32) .gt a b == 1#1) = decide (b < a) := by
    change (BitVec.ofBool (decide (b < a)) == 1#1) = _
    cases decide (b < a) <;> rfl
  have head (J : S64.Idx) (k₀ : Fin 64) (h₀ : k₀ = 0) :
      sortedFrom (fun k k' : Fin 64 => FloatOps.cmpfTotal (F := Ideal) (φ := .f32) .gt (x (J.along (0 : Fin 1) k)) (x (J.along (0 : Fin 1) k')) == 1#1) k₀
        = top x := by
    simp only [gt, along, h₀]
    rfl
  have first (j : S1.Idx) (h' : 0 + (j 0).val < 64) : (⟨0 + (j 0).val, h'⟩ : Fin 64) = 0 :=
    Fin.ext ((Nat.zero_add _).trans (Nat.lt_one_iff.mp (j 0).isLt))
  have lt (j : S1.Idx) : 0 + (j 0).val < 64 := by have : (j 0).val < 1 := (j 0).isLt; omega
  let J (j : S1.Idx) : S64.Idx := fun a => ⟨0 + (j (a.cast h.1.symm)).val, Nat.lt_of_lt_of_le (Nat.add_lt_add_left (j _).isLt _) (h.2 a)⟩
  refine Prod.ext (funext fun j => ?_) (funext fun j => ?_)
  · have e := (congrArg ((J j).along (0 : Fin 1)) (head (J j) ⟨0 + (j 0).val, lt j⟩ (first j _))).trans (along (J j) (top x))
    exact congrArg x e
  · have e := (congrArg ((J j).along (0 : Fin 1)) (head (J j) ⟨0 + (j 0).val, lt j⟩ (first j _))).trans (along (J j) (top x))
    have e' := congrArg (fun i : S64.Idx => BitVec.ofNat 32 (i 0).val) e
    refine Eq.trans e' ?_
    exact congrArg (BitVec.ofNat 32) (Nat.mod_eq_of_lt (top x).isLt)

end Cert.Proof.Router

end
-- ==== Proof.Reference.lean ====
/- What the reference computes over the extended reals, for a finite array: the weight is one, since a finite value
   less itself is zero and the exponential of zero over itself is one; the index is the first position of the greatest. -/
module

public import proofs.«01_k».proof.Proof.TopOne
public import proofs.«01_k».proof.Proof.Gen.ReferenceIdeal.Run
public import proofs.«01_k».proof.Proof.Gen.Pre_finite
public import proofs.«01_k».proof.Pre_finite
public import Idealize.ShloMosaic.Lib.ReduceAll
public import Idealize.ShloMosaic.Lib.IdealHost
public import Idealize.ShloMosaic.Lib.Pointwise.Reduce

@[expose] public section

noncomputable section

namespace Cert.Proof.Router

open Idealize.ShloMosaic
open Cert.ReferenceIdeal Cert.ReferenceIdeal.Facts₀

/-- The word the precondition compares with reads `+∞`. -/
theorem ofBits_inf : Ideal.ofBits .f32 0x7F800000#32 = ⊤ := by simp [Ideal.ofBits, Ideal.ieee]

/-- The word the reference's maximum starts from reads `-∞`. -/
theorem ofBits_neg_inf : Ideal.ofBits .f32 0xFF800000#32 = ⊥ := by simp [Ideal.ofBits, Ideal.ieee]

/-- The word the reference multiplies by reads one hundred. -/
theorem ofBits_hundred : Ideal.ofBits .f32 0x42C80000#32 = ((100 : ℝ) : EReal) := by
  simp [Ideal.ofBits, Ideal.ieee]
  rw [← EReal.coe_mul]
  norm_num

/-- Under the precondition every entry of the array is a real number. -/
theorem real_of_finite {x : FVec Ideal S64 .f32} (h : Cert.Pre_finite.fn (F := Ideal) x = fun _ => 1#1) (i : S64.Idx) :
    ∃ r : ℝ, x i = (r : EReal) := by
  have : Subsingleton Cert.Pre_finite.S_.Idx := ⟨fun a b => funext fun k => k.elim0⟩
  have h1 := Host.reduce_andi_all _ _ _ _ (fun k => k.elim0) (congrFun h _) i
  have h2 : BitVec.ofBool (decide (max (x i) (-(x i)) < Ideal.ofBits .f32 0x7F800000#32)) = 1#1 := h1
  rw [ofBits_inf] at h2
  have h3 : max (x i) (-(x i)) < ⊤ := by
    by_contra h4
    simp [h4] at h2
  have ht : x i ≠ ⊤ := fun e => by simp [e] at h3
  have hb : x i ≠ ⊥ := fun e => by simp [e] at h3
  exact ⟨(x i).toReal, (EReal.coe_toReal ht hb).symm⟩

/-- The reference's values over its temperature. -/
def scaled (v : FVec Ideal S1 .f32) : FVec Ideal S1 .f32 := mulf v (broadcastInDim S1 ![] bcast_S_S1 (constant S_ .f32 0x42C80000#32))

/-- The exponentials of the reference's softmax: of each scaled value less the greatest. -/
def powers (v : FVec Ideal S1 .f32) : FVec Ideal S1 .f32 :=
  Host.exp (subf (scaled v) (broadcastInDim S1 ![] bcast_S_S1 (maximumf (constant S_ .f32 0xFF800000#32)
    (Host.reduce FloatOps.maximumf (scaled v) (constant S_ .f32 0xFF800000#32) reducesTo_S1_S_d0 h_S_))))

/-- The reference's softmax: the exponentials over their sum. -/
def softmax (v : FVec Ideal S1 .f32) : FVec Ideal S1 .f32 :=
  Host.divf (powers v) (broadcastInDim S1 ![] bcast_S_S1 (Host.reduceAdd (powers v) (constant S_ .f32 0x00000000#32) reducesTo_S1_S_d0 h_S_))

/-- The softmax of one real number is one. -/
theorem softmax_one (v : FVec Ideal S1 .f32) (r : ℝ) (hv : v = fun _ => (r : EReal)) : softmax v = fun _ => 1 := by
  subst hv
  have sub : Subsingleton S_.Idx := ⟨fun a b => funext fun k => k.elim0⟩
  have hs : ((r : EReal) * ((100 : ℝ) : EReal)) = ((r * 100 : ℝ) : EReal) := (EReal.coe_mul r 100).symm
  have product : scaled (fun _ => (r : EReal)) = fun _ => ((r * 100 : ℝ) : EReal) := by
    funext j
    change (r : EReal) * Ideal.ofBits .f32 0x42C80000#32 = _
    rw [ofBits_hundred, hs]
  have greatest : (Host.reduce FloatOps.maximumf (fun _ => ((r * 100 : ℝ) : EReal)) (constant S_ .f32 0xFF800000#32) reducesTo_S1_S_d0 h_S_ : FVec Ideal S_ .f32)
      = fun _ => ((r * 100 : ℝ) : EReal) := by
    funext j
    rw [Host.reduce_eq_foldl, List.filter_eq_self.mpr fun a _ => by simp [Subsingleton.elim _ j]]
    change max (Ideal.ofBits .f32 0xFF800000#32) ((r * 100 : ℝ) : EReal) = _
    rw [ofBits_neg_inf, max_eq_right bot_le]
  have power : powers (fun _ => (r : EReal)) = fun _ => 1 := by
    unfold powers
    rw [product, greatest]
    funext j
    change Ideal.exp (((r * 100 : ℝ) : EReal) - max (Ideal.ofBits .f32 0xFF800000#32) ((r * 100 : ℝ) : EReal)) = 1
    rw [ofBits_neg_inf, max_eq_right bot_le, ← EReal.coe_sub, sub_self]
    change ((Real.exp 0 : ℝ) : EReal) = 1
    rw [Real.exp_zero, EReal.coe_one]
  have total : (Host.reduceAdd (fun _ => (1 : EReal)) (constant S_ .f32 0x00000000#32) reducesTo_S1_S_d0 h_S_ : FVec Ideal S_ .f32) = fun _ => 1 := by
    funext j
    refine (Ideal.hostReduceAdd_r1_a0 _ _ _ _).trans ?_
    change Ideal.ofBits .f32 0x00000000#32 + _ = _
    rw [Ideal.ofBits_zero_f32]
    simp
  unfold softmax
  rw [power, total]
  funext j
  change Ideal.div 1 1 = 1
  simp [Ideal.div]

/-- The reference's weight for a finite array: the one the kernel writes. -/
theorem reference_weight {x : FVec Ideal S64 .f32} (h : Cert.Pre_finite.fn (F := Ideal) x = fun _ => 1#1) :
    softmax (Host.topK S1 0 (FloatOps.cmpfTotal .gt) x sliceFits_S64_S1).1 = weight (F := Ideal) := by
  obtain ⟨r, hr⟩ := real_of_finite h (at64 (top x).val)
  rw [softmax_one _ r (by rw [topOne]; exact funext fun _ => hr)]
  exact funext fun _ => Ideal.ofBits_one_f32.symm

/-- The reference's index: the one the kernel writes. -/
theorem reference_index (x : FVec Ideal S64 .f32) :
    (Host.topK S1 0 (FloatOps.cmpfTotal .gt) x sliceFits_S64_S1).2 = index (F := Ideal) x := by
  rw [topOne]
  exact (index_eq (firstMax_top x)).symm

end Cert.Proof.Router

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_finite
public import proofs.«01_k».proof.Proof.Launch
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem
open Cert.Proof.Router

/-- Over machine words the kernel runs, leaves the array as it was and every counter at zero. -/
theorem frame_kernel : Cert.quiescent_Kernel := fun m ρ _ =>
  (θ_run Cert.KernelIdeal.defs _ _).mono (fun _ h => ⟨fun c => (h.1 c).1, h.2⟩) (run_main (F := Bits) m ρ)

/-- The same over the extended reals. -/
theorem frame_ideal : Cert.quiescent_KernelIdeal := fun m ρ _ =>
  (θ_run Cert.KernelIdeal.defs _ _).mono (fun _ h => ⟨fun c => (h.1 c).1, h.2⟩) (run_main (F := Ideal) m ρ)

/-- The reference runs, leaves the array as it was, and has no counter. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- Over the extended reals, for a finite array, kernel and reference end with the same weight and the same index. -/
theorem equal : Cert.algebraic_KernelIdeal_ReferenceIdeal_pre_finite := by
  intro m ρ m' ρ' finite agree
  refine ⟨fun _ => weight (F := Ideal), fun c => index (F := Ideal) (m (xLoc c)), ?_, ?_⟩
  · exact (θ_run Cert.KernelIdeal.defs _ _).mono (fun _ h c => ⟨(h.1 c).2.1, (h.1 c).2.2, (h.1 c).1⟩) (run_main (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · rw [agree c]
      exact reference_weight (finite c)
    · rw [agree c]
      exact reference_index _

/-- The certificate: the programs' facts, the frames, the idealization (which rewrote nothing) and the equation. -/
theorem claim : Cert.Claim := ⟨Cert.Kernel.Gen.facts, Cert.KernelIdeal.Gen.facts, Cert.ReferenceIdeal.Gen.facts, Cert.Pre_finite.Gen.facts,
  frame_kernel, frame_ideal, fun m ρ _ => frame_ideal m ρ trivial, frame_reference, fun m ρ _ => frame_reference m ρ trivial,
  trivial, equal⟩

end Cert.Proof

end
